-- ==== Defs.lean ====
def Pre_Kernel [hPre_chunks_in_range : Cert.Pre_chunks_in_range.Facts] (m : (ℓ : Loc Cert.Kernel.nD Cert.Kernel.τ Cert.Kernel.sig) → Buf (Elt Bits) ℓ) : Prop :=
  ∀ c : Dev Cert.Kernel.nD,
    (Cert.Pre_chunks_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_chunks_in_range : Cert.Pre_chunks_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_chunks_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_chunks_of_128 [hPre_chunks_of_128 : Cert.Pre_chunks_of_128.Facts] (m : (ℓ : Loc Cert.KernelIdeal.nD Cert.KernelIdeal.τ Cert.KernelIdeal.sig) → Buf (Elt Ideal) ℓ) : Prop :=
  ∀ c : Dev Cert.KernelIdeal.nD,
    (Cert.Pre_chunks_of_128.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_chunks_of_128 [hPre_chunks_of_128 : Cert.Pre_chunks_of_128.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_chunks_of_128.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_chunks_in_range : Cert.Pre_chunks_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_chunks_in_range : Cert.Pre_chunks_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_chunks_of_128 [hKernelIdeal : Cert.KernelIdeal.Facts] [hPre_chunks_of_128 : Cert.Pre_chunks_of_128.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_chunks_of_128 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_chunks_of_128 [hReferenceIdeal : Cert.ReferenceIdeal.Facts] [hPre_chunks_of_128 : Cert.Pre_chunks_of_128.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_chunks_of_128 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_chunks_of_128 [hKernelIdeal : Cert.KernelIdeal.Facts] [hReferenceIdeal : Cert.ReferenceIdeal.Facts] [hPre_chunks_of_128 : Cert.Pre_chunks_of_128.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_chunks_of_128 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_chunks_in_range : Cert.Pre_chunks_in_range.Facts) (hPre_chunks_of_128 : Cert.Pre_chunks_of_128.Facts),
    quiescent_Kernel (hKernel := hKernel) (hPre_chunks_in_range := hPre_chunks_in_range)
    ∧ quiescent_KernelIdeal (hKernelIdeal := hKernelIdeal) (hPre_chunks_in_range := hPre_chunks_in_range)
    ∧ quiescent_KernelIdeal_pre_chunks_of_128 (hKernelIdeal := hKernelIdeal) (hPre_chunks_of_128 := hPre_chunks_of_128)
    ∧ quiescent_ReferenceIdeal (hReferenceIdeal := hReferenceIdeal)
    ∧ quiescent_ReferenceIdeal_pre_chunks_of_128 (hReferenceIdeal := hReferenceIdeal) (hPre_chunks_of_128 := hPre_chunks_of_128)
    ∧ preserves_Kernel_KernelIdeal
    ∧ algebraic_KernelIdeal_ReferenceIdeal_pre_chunks_of_128 (hKernelIdeal := hKernelIdeal) (hReferenceIdeal := hReferenceIdeal) (hPre_chunks_of_128 := hPre_chunks_of_128)
-- ==== Pre_chunks_in_range.lean ====
abbrev S2x1x4096x4096 : Shape := ⟨4, ![2, 1, 4096, 4096]⟩
abbrev S2 : Shape := ⟨1, ![2]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel

variable [Facts]

def fn {F : FTy → Type} [FloatOps F] (main_arg0 : FVec F S2x1x4096x4096 .f32) (main_arg1 : IVec S2 32) (main_arg2 : IVec S_ 32) : IVec S_ 1 :=
  let main_c : IVec S_ 32 := constantI S_ 32 1#32
  let main_v0 : IVec S2 32 := broadcastInDim S2 ![] bcast_S_S2 main_c
  let main_v1 : IVec S2 1 := cmpi .sge main_arg1 main_v0
  let main_c_0 : IVec S_ 32 := constantI S_ 32 32#32
  let main_v2 : IVec S2 32 := broadcastInDim S2 ![] bcast_S_S2 main_c_0
  let main_v3 : IVec S2 1 := cmpi .sle main_arg1 main_v2
  let main_v4 : IVec S2 1 := andi main_v1 main_v3
  let main_c_1 : IVec S_ 1 := constantI S_ 1 1#1
  let main_v5 : IVec S_ 1 := (fun x v => Host.reduce IntOp.andi x v reducesTo_S2_S_d0 h_S_) main_v4 main_c_1
  main_v5
-- ==== Pre_chunks_of_128.lean ====
abbrev S2x1x4096x4096 : Shape := ⟨4, ![2, 1, 4096, 4096]⟩
abbrev S2 : Shape := ⟨1, ![2]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel

variable [Facts]

def fn {F : FTy → Type} [FloatOps F] (main_arg0 : FVec F S2x1x4096x4096 .f32) (main_arg1 : IVec S2 32) (main_arg2 : IVec S_ 32) : IVec S_ 1 :=
  let main_c : IVec S_ 32 := constantI S_ 32 1#32
  let main_v0 : IVec S2 32 := broadcastInDim S2 ![] bcast_S_S2 main_c
  let main_v1 : IVec S2 1 := cmpi .sge main_arg1 main_v0
  let main_c_0 : IVec S_ 32 := constantI S_ 32 32#32
  let main_v2 : IVec S2 32 := broadcastInDim S2 ![] bcast_S_S2 main_c_0
  let main_v3 : IVec S2 1 := cmpi .sle main_arg1 main_v2
  let main_v4 : IVec S2 1 := andi main_v1 main_v3
  let main_c_1 : IVec S_ 1 := constantI S_ 1 1#1
  let main_v5 : IVec S_ 1 := (fun x v => Host.reduce IntOp.andi x v reducesTo_S2_S_d0 h_S_) main_v4 main_c_1
  let main_c_2 : IVec S_ 32 := constantI S_ 32 128#32
  let main_v6 : IVec S_ 1 := cmpi .eq main_arg2 main_c_2
  let main_v7 : IVec S_ 1 := andi main_v5 main_v6
  main_v7
-- ==== Kernel.lean ====
abbrev S2x1x4096x4096 : Shape := ⟨4, ![2, 1, 4096, 4096]⟩
abbrev S2 : Shape := ⟨1, ![2]⟩
abbrev S_ : Shape := ⟨0, ![]⟩
abbrev S1x1x1024x1024 : Shape := ⟨4, ![1, 1, 1024, 1024]⟩
abbrev S1 : Shape := ⟨1, ![1]⟩
abbrev S1024x1024 : Shape := ⟨2, ![1024, 1024]⟩

abbrev nBuf : Space → Nat
  | .hbm => 3
  | .vmem => 4
  | .smem => 1
  | _ => 0

abbrev bufTy : (tb : Table) → Fin (tcTables nBuf tb) → BufTy
  | .hbm, ⟨0, _⟩ => ⟨S2x1x4096x4096, .f32⟩
  | .hbm, ⟨1, _⟩ => ⟨S_, .i32⟩
  | .hbm, ⟨2, _⟩ => ⟨S2x1x4096x4096, .f32⟩
  | .local _ .vmem, ⟨0, _⟩ => ⟨S1x1x1024x1024, .f32⟩
  | .local _ .vmem, ⟨1, _⟩ => ⟨S1x1x1024x1024, .f32⟩
  | .local _ .vmem, ⟨2, _⟩ => ⟨S1x1x1024x1024, .f32⟩
  | .local _ .vmem, ⟨3, _⟩ => ⟨S1x1x1024x1024, .f32⟩
  | .local _ .smem, ⟨0, _⟩ => ⟨S2, .i32⟩
  | _, _ => ⟨S2x1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_v0 : Ref sig .tc := ⟨.hbm, 2, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![2, 4, 4], ![false, false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v1 : BitVec 32) : BitVec 1 :=
  let arg2 : BitVec 32 := BitVec.ofNat 32 (i 2).val
  let c8_i32_2 : BitVec 32 := 8#32
  let v6 : BitVec 32 := Scalar.muli arg2 c8_i32_2
  let c7_i32_3 : BitVec 32 := 7#32
  let v7 : BitVec 32 := Scalar.addi v6 c7_i32_3
  let arg1 : BitVec 32 := BitVec.ofNat 32 (i 1).val
  let c8_i32 : BitVec 32 := 8#32
  let v2 : BitVec 32 := Scalar.muli arg1 c8_i32
  let v8 : BitVec 1 := Scalar.cmpi .sle v7 v2
  let c8_i32_0 : BitVec 32 := 8#32
  let v3 : BitVec 32 := Scalar.muli arg1 c8_i32_0
  let c7_i32 : BitVec 32 := 7#32
  let v4 : BitVec 32 := Scalar.addi v3 c7_i32
  let v9 : BitVec 1 := Scalar.cmpi .slt v4 v1
  let v10 : BitVec 1 := Scalar.andi v8 v9
  let v14 : BitVec 32 := Scalar.extui v10
  let c0_i32 : BitVec 32 := 0#32
  let v15 : BitVec 1 := Scalar.cmpi .ne v14 c0_i32
  v15

def k0_cond2 (i : grid0.Coords) (v1 : BitVec 32) : BitVec 1 :=
  let arg2 : BitVec 32 := BitVec.ofNat 32 (i 2).val
  let c8_i32_1 : BitVec 32 := 8#32
  let v5 : BitVec 32 := Scalar.muli arg2 c8_i32_1
  let arg1 : BitVec 32 := BitVec.ofNat 32 (i 1).val
  let c8_i32_0 : BitVec 32 := 8#32
  let v3 : BitVec 32 := Scalar.muli arg1 c8_i32_0
  let c7_i32 : BitVec 32 := 7#32
  let v4 : BitVec 32 := Scalar.addi v3 c7_i32
  let v11 : BitVec 1 := Scalar.cmpi .sgt v5 v4
  let c8_i32 : BitVec 32 := 8#32
  let v2 : BitVec 32 := Scalar.muli arg1 c8_i32
  let v12 : BitVec 1 := Scalar.cmpi .sge v2 v1
  let v13 : BitVec 1 := Scalar.ori v11 v12
  let v16 : BitVec 32 := Scalar.extui v13
  let c0_i32_4 : BitVec 32 := 0#32
  let v17 : BitVec 1 := Scalar.cmpi .ne v16 c0_i32_4
  v17

def k0_cond3 (i : grid0.Coords) (v1 : BitVec 32) : BitVec 1 :=
  let arg2 : BitVec 32 := BitVec.ofNat 32 (i 2).val
  let c8_i32_2 : BitVec 32 := 8#32
  let v6 : BitVec 32 := Scalar.muli arg2 c8_i32_2
  let c7_i32_3 : BitVec 32 := 7#32
  let v7 : BitVec 32 := Scalar.addi v6 c7_i32_3
  let arg1 : BitVec 32 := BitVec.ofNat 32 (i 1).val
  let c8_i32 : BitVec 32 := 8#32
  let v2 : BitVec 32 := Scalar.muli arg1 c8_i32
  let v8 : BitVec 1 := Scalar.cmpi .sle v7 v2
  let c8_i32_0 : BitVec 32 := 8#32
  let v3 : BitVec 32 := Scalar.muli arg1 c8_i32_0
  let c7_i32 : BitVec 32 := 7#32
  let v4 : BitVec 32 := Scalar.addi v3 c7_i32
  let v9 : BitVec 1 := Scalar.cmpi .slt v4 v1
  let v10 : BitVec 1 := Scalar.andi v8 v9
  let c8_i32_1 : BitVec 32 := 8#32
  let v5 : BitVec 32 := Scalar.muli arg2 c8_i32_1
  let v11 : BitVec 1 := Scalar.cmpi .sgt v5 v4
  let v12 : BitVec 1 := Scalar.cmpi .sge v2 v1
  let v13 : BitVec 1 := Scalar.ori v11 v12
  let v18 : BitVec 1 := Scalar.ori v10 v13
  let v_true : BitVec 1 := 1#1
  let v19 : BitVec 1 := Scalar.xori v18 v_true
  let v20 : BitVec 32 := Scalar.extui v19
  let c0_i32_5 : BitVec 32 := 0#32
  let v21 : BitVec 1 := Scalar.cmpi .ne v20 c0_i32_5
  v21

def cc0_transform_0 (k0_off1_inb : ∀ i : grid0.Coords, ∀ a, (k0_off1 i) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S2) ![v0.toNat] S1.size (k0_off1_inb i)) numel1_S1
  let c8_i32 : BitVec 32 := 8#32
  let v2 : BitVec 32 := Scalar.muli arg2 c8_i32
  let c8_i32_0 : BitVec 32 := 8#32
  let v3 : BitVec 32 := Scalar.muli arg1 c8_i32_0
  let c7_i32 : BitVec 32 := 7#32
  let v4 : BitVec 32 := Scalar.addi v3 c7_i32
  let v5 : BitVec 1 := Scalar.cmpi .sle v2 v4
  let c8_i32_1 : BitVec 32 := 8#32
  let v6 : BitVec 32 := Scalar.muli arg1 c8_i32_1
  let v7 : BitVec 1 := Scalar.cmpi .slt v6 v1
  let v8 : BitVec 1 := Scalar.andi v5 v7
  let c1_i32 : BitVec 32 := 1#32
  let v9 : BitVec 32 := Scalar.subi v1 c1_i32
  let c8_i32_2 : BitVec 32 := 8#32
  let v10 : BitVec 32 := Scalar.divsi v9 c8_i32_2
  let c0_i32 : BitVec 32 := 0#32
  let v11 : BitVec 1 := Scalar.cmpi .sgt v9 c0_i32
  let v12 : BitVec 32 := Scalar.extui v11
  let c0_i32_3 : BitVec 32 := 0#32
  let v13 : BitVec 1 := Scalar.cmpi .slt v9 c0_i32_3
  let v14 : BitVec 32 := Scalar.extui v13
  let v15 : BitVec 32 := Scalar.subi v12 v14
  let c0_i32_4 : BitVec 32 := 0#32
  let v16 : BitVec 1 := Scalar.cmpi .sgt c8_i32_2 c0_i32_4
  let v17 : BitVec 32 := Scalar.extui v16
  let c0_i32_5 : BitVec 32 := 0#32
  let v18 : BitVec 1 := Scalar.cmpi .slt c8_i32_2 c0_i32_5
  let v19 : BitVec 32 := Scalar.extui v18
  let v20 : BitVec 32 := Scalar.subi v17 v19
  let v21 : BitVec 1 := Scalar.cmpi .ne v15 v20
  let v22 : BitVec 32 := Scalar.remsi v9 c8_i32_2
  let c0_i32_6 : BitVec 32 := 0#32
  let v23 : BitVec 1 := Scalar.cmpi .ne v22 c0_i32_6
  let v24 : BitVec 1 := Scalar.andi v21 v23
  let c1_i32_7 : BitVec 32 := 1#32
  let v25 : BitVec 32 := Scalar.subi v10 c1_i32_7
  let v26 : BitVec 32 := Scalar.select v24 v25 v10
  let v27 : BitVec 32 := Scalar.minsi arg1 v26
  let v28 : BitVec 32 := Scalar.select v8 arg1 v27
  let v29 : BitVec 32 := Scalar.select v8 arg2 v28
  let c0_i32_8 : BitVec 32 := 0#32
  let c0_i32_9 : BitVec 32 := 0#32
  ![arg0.toNat, c0_i32_8.toNat, v28.toNat, v29.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== ReferenceIdeal.lean ====
abbrev S2x1x4096x4096 : Shape := ⟨4, ![2, 1, 4096, 4096]⟩
abbrev S2 : Shape := ⟨1, ![2]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2x1 : Shape := ⟨2, ![2, 1]⟩
abbrev S2x4096 : Shape := ⟨2, ![2, 4096]⟩
abbrev S1x4096x4096 : Shape := ⟨3, ![1, 4096, 4096]⟩
abbrev S2x4096x1 : Shape := ⟨3, ![2, 4096, 1]⟩
abbrev S2x4096x4096 : Shape := ⟨3, ![2, 4096, 4096]⟩
abbrev S2x1x4096 : Shape := ⟨3, ![2, 1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S2x1x4096x4096, .f32⟩
  | .hbm, ⟨1, _⟩ => ⟨S2, .i32⟩
  | .hbm, ⟨2, _⟩ => ⟨S_, .i32⟩
  | .hbm, ⟨3, _⟩ => ⟨S4096, .i32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S4096, .i32⟩
  | .hbm, ⟨11, _⟩ => ⟨S4096, .i32⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S1x4096, .i32⟩
  | .hbm, ⟨22, _⟩ => ⟨S4096x4096, .i32⟩
  | .hbm, ⟨23, _⟩ => ⟨S4096x4096, .i32⟩
  | .hbm, ⟨24, _⟩ => ⟨S4096x4096, .i1⟩
  | .hbm, ⟨25, _⟩ => ⟨S2, .i32⟩
  | .hbm, ⟨26, _⟩ => ⟨S2, .i32⟩
  | .hbm, ⟨27, _⟩ => ⟨S1x4096, .i32⟩
  | .hbm, ⟨28, _⟩ => ⟨S2x1, .i32⟩
  | .hbm, ⟨29, _⟩ => ⟨S2x4096, .i32⟩
  | .hbm, ⟨30, _⟩ => ⟨S2x4096, .i32⟩
  | .hbm, ⟨31, _⟩ => ⟨S2x4096, .i1⟩
  | .hbm, ⟨32, _⟩ => ⟨S1x4096x4096, .i1⟩
  | .hbm, ⟨33, _⟩ => ⟨S2x4096x1, .i1⟩
  | .hbm, ⟨34, _⟩ => ⟨S2x4096x4096, .i1⟩
  | .hbm, ⟨35, _⟩ => ⟨S2x4096x4096, .i1⟩
  | .hbm, ⟨36, _⟩ => ⟨S2x4096x4096, .i1⟩
  | .hbm, ⟨37, _⟩ => ⟨S2x1x4096, .i1⟩
  | .hbm, ⟨38, _⟩ => ⟨S2x4096x4096, .i1⟩
  | .hbm, ⟨39, _⟩ => ⟨S2x4096x4096, .i1⟩
  | .hbm, ⟨40, _⟩ => ⟨S2x4096x4096, .i1⟩
  | .hbm, ⟨41, _⟩ => ⟨S2x1x4096x4096, .i1⟩
  | .hbm, ⟨42, _⟩ => ⟨S_, .f32⟩
  | .hbm, ⟨43, _⟩ => ⟨S2x1x4096x4096, .f32⟩
  | .hbm, ⟨44, _⟩ => ⟨S2x1x4096x4096, .f32⟩
  | _, _ => ⟨S2x1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_c : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_c_0 : Ref sig .tc := ⟨.hbm, 16, rfl⟩
abbrev main_call0_v11 : Ref sig .tc := ⟨.hbm, 17, rfl⟩
abbrev main_call0_v12 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_call1_v0 : Ref sig .tc := ⟨.hbm, 43, rfl⟩
abbrev main_v24 : Ref sig .tc := ⟨.hbm, 44, rfl⟩

abbrev nD : Nat := 1
abbrev τ : Topo := Topo.v7x

variable {F : FTy → Type} [FloatOps F]
-- ==== Proof.Words.lean ====
/- The words that steer the kernel. At each grid point `(b, i, j)` the kernel reads one word, the number of chunks of
   batch `b`; that word chooses which of the three branches of the body runs and which block of the scores is fetched.
   Here the branch conditions and the index map are evaluated for every number of chunks from 1 to 32. -/
module

public import proofs.«01_k».proof.Proof.Gen.KernelIdeal
public import Idealize.ShloMosaic.Lib.Decide
public import Idealize.ShloMosaic.PureOps.BitExact

@[expose] public section

namespace Cert.ChunkMask

open Cert.KernelIdeal Cert.KernelIdeal.Gen
open Idealize.ShloMosaic

/-- A number of chunks the claims admit: from 1 to 32. -/
def InRange (v : BitVec 32) : Prop := 1 ≤ v.toNat ∧ v.toNat ≤ 32

/-- The index of the table at batch `b`. -/
def batchIx (b : Fin 2) : S2.Idx := fun _ => ⟨b.val, by have := b.isLt; rename_i a; fin_cases a; exact this⟩

/-- The table's word at the batch of grid point `i`. -/
def word (T : S2.Idx → BitVec 32) (i : grid0.Coords) : BitVec 32 := T (batchIx ⟨(i 0).val, (i 0).isLt⟩)

/-- A word in range is the word of a natural number from 1 to 32. -/
theorem InRange.eq_ofNat {v : BitVec 32} (h : InRange v) : ∃ n : Fin 32, v = BitVec.ofNat 32 (n.val + 1) := by
  refine ⟨⟨v.toNat - 1, by have := h.1; have := h.2; omega⟩, ?_⟩
  have h1 := h.1
  apply BitVec.eq_of_toNat_eq
  simp only [BitVec.toNat_ofNat]
  have := h.2
  omega

/-- The first condition, decided for every grid point and number of chunks. -/
theorem cond1_dec : ∀ (i : grid0.Coords) (n : Fin 32), k0_cond1 i (BitVec.ofNat 32 (n.val + 1)) = 1#1 ↔
    (8 * (i 2).val + 7 ≤ 8 * (i 1).val ∧ 8 * (i 1).val + 7 < n.val + 1) := by decide +kernel

/-- The second condition, decided for every grid point and number of chunks. -/
theorem cond2_dec : ∀ (i : grid0.Coords) (n : Fin 32), k0_cond2 i (BitVec.ofNat 32 (n.val + 1)) = 1#1 ↔
    (8 * (i 1).val + 7 < 8 * (i 2).val ∨ n.val + 1 ≤ 8 * (i 1).val) := by decide +kernel

/-- The third condition, decided for every grid point and number of chunks: neither of the others. -/
theorem cond3_dec : ∀ (i : grid0.Coords) (n : Fin 32), k0_cond3 i (BitVec.ofNat 32 (n.val + 1)) = 1#1 ↔
    (¬k0_cond1 i (BitVec.ofNat 32 (n.val + 1)) = 1#1 ∧ ¬k0_cond2 i (BitVec.ofNat 32 (n.val + 1)) = 1#1) := by
  decide +kernel

/-- The first condition holds when the block lies wholly below the diagonal and within the chunks in use. -/
theorem cond1_iff {v : BitVec 32} (h : InRange v) (i : grid0.Coords) : k0_cond1 i v = 1#1 ↔
    (8 * (i 2).val + 7 ≤ 8 * (i 1).val ∧ 8 * (i 1).val + 7 < v.toNat) := by
  obtain ⟨n, rfl⟩ := h.eq_ofNat
  rw [cond1_dec, BitVec.toNat_ofNat, Nat.mod_eq_of_lt (by have := n.isLt; omega)]

/-- The second condition holds when the block lies wholly above the diagonal or past the chunks in use. -/
theorem cond2_iff {v : BitVec 32} (h : InRange v) (i : grid0.Coords) : k0_cond2 i v = 1#1 ↔
    (8 * (i 1).val + 7 < 8 * (i 2).val ∨ v.toNat ≤ 8 * (i 1).val) := by
  obtain ⟨n, rfl⟩ := h.eq_ofNat
  rw [cond2_dec, BitVec.toNat_ofNat, Nat.mod_eq_of_lt (by have := n.isLt; omega)]

/-- The third condition holds exactly when neither of the other two does. -/
theorem cond3_iff {v : BitVec 32} (h : InRange v) (i : grid0.Coords) : k0_cond3 i v = 1#1 ↔
    (¬k0_cond1 i v = 1#1 ∧ ¬k0_cond2 i v = 1#1) := by
  obtain ⟨n, rfl⟩ := h.eq_ofNat
  exact cond3_dec i n

/-- The first two conditions never hold together. -/
theorem not_cond2_of_cond1 {v : BitVec 32} (h : InRange v) (i : grid0.Coords) (h1 : k0_cond1 i v = 1#1) :
    ¬k0_cond2 i v = 1#1 := by
  rw [cond1_iff h] at h1
  rw [cond2_iff h]
  omega

section Table
variable {F : FTy → Type} [FloatOps F]

/-- The prefetched tables' contents when the one table holds `T`. -/
def tab (T : S2.Idx → BitVec 32) : pre0.Contents (Elt F) := fun
  | ⟨0, _⟩ => T
  | ⟨_ + 1, h⟩ => absurd h (Nat.not_lt.2 (Nat.le_add_left _ _))

end Table

/-- The index map of the scores at a table that holds the word of `n` everywhere stays inside the array. -/
theorem inb_dec : ∀ (n : Fin 32) (i : grid0.Coords) (a : Fin 4),
    (cc0_transform_0 (F := Bits) k0_off1_inb numel1_S1 (tab fun _ => BitVec.ofNat 32 (n.val + 1)) i a + 1)
      * S1x1x1024x1024.size a ≤ S2x1x4096x4096.size a := by decide +kernel

/-- Where the second condition fails, the block of the scores fetched is the block written. -/
theorem fetch_dec : ∀ (n : Fin 32) (i : grid0.Coords), ¬k0_cond2 i (BitVec.ofNat 32 (n.val + 1)) = 1#1 → ∀ a : Fin 4,
    cc0_transform_0 (F := Bits) k0_off1_inb numel1_S1 (tab fun _ => BitVec.ofNat 32 (n.val + 1)) i a
      = cc0_transform_1 i a := by decide +kernel

section Table
variable {F : FTy → Type} [FloatOps F]

/-- The index map of the scores reads only the table's word at the point's batch. -/
theorem transform_word (T : S2.Idx → BitVec 32) (i : grid0.Coords) :
    cc0_transform_0 (F := F) k0_off1_inb numel1_S1 (tab T) i
      = cc0_transform_0 (F := Bits) k0_off1_inb numel1_S1 (tab fun _ => word T i) i := by
  have e : ∀ (r : Rect S2) (h1 : r.shape.numel = 1), (r = Rect.unit (s := S2) (k0_off1 i) S1.size (k0_off1_inb i)) →
      r.emb (Shape.Idx.first (h1.symm ▸ Nat.one_pos)) = batchIx ⟨(i 0).val, (i 0).isLt⟩ := by
    rintro r h1 rfl
    funext a
    fin_cases a
    apply Fin.ext
    simp [Rect.unit, Rect.emb, k0_off1_eq, batchIx, Shape.Idx.first]
  unfold cc0_transform_0 word
  simp only [Pipeline.Prefetch.Contents.at]
  rw [← e _ numel1_S1 rfl]
  rfl

/-- The side condition on the table: with every number of chunks in range every block fetched is inside the scores. -/
theorem ok_tab {T : S2.Idx → BitVec 32} (h : ∀ x, InRange (T x)) : ok0 (F := F) (tab T) := by
  intro i
  refine ⟨fun a => ?_, .inl rfl⟩
  rw [transform_word]
  obtain ⟨n, hn⟩ := (h (batchIx ⟨(i 0).val, (i 0).isLt⟩)).eq_ofNat
  rw [word, hn]
  exact inb_dec n i a

/-- Where the second condition fails, the block of the scores fetched is the block written, for a table in range. -/
theorem fetch_eq {T : S2.Idx → BitVec 32} (h : ∀ x, InRange (T x)) (i : grid0.Coords)
    (h2 : ¬k0_cond2 i (word T i) = 1#1) (a : Fin 4) :
    cc0_transform_0 (F := F) k0_off1_inb numel1_S1 (tab T) i a = cc0_transform_1 i a := by
  rw [transform_word]
  obtain ⟨n, hn⟩ := (h (batchIx ⟨(i 0).val, (i 0).isLt⟩)).eq_ofNat
  unfold word at h2 ⊢
  rw [hn] at h2 ⊢
  exact fetch_dec n i h2 a

end Table

/-- The index map of the result: batch, and the two block coordinates. -/
theorem transform_out : ∀ i : grid0.Coords, cc0_transform_1 i = ![(i 0).val, 0, (i 1).val, (i 2).val] := by decide +kernel

end Cert.ChunkMask
-- ==== Proof.Mask.lean ====
/- What the kernel computes. A score at row `r` and column `c` of batch `b` is kept when the column's chunk of 128 is
   not after the row's and both positions lie within the batch's chunks in use; every other score becomes the constant
   -1e9. Here the three values the body stores are read at an index and found to be this mask on the block. -/
module

public import proofs.«01_k».proof.Proof.Words
public import proofs.«01_k».proof.Proof.Gen.KernelIdeal.Skeleton
public import Idealize.ShloMosaic.Lib.Pointwise.Reshape
public import Idealize.ShloMosaic.Lib.Pipeline.Value
public import Idealize.ShloMosaic.Lib.WordCmp

@[expose] public section

namespace Cert.ChunkMask

open Cert.KernelIdeal Cert.KernelIdeal.Gen
open Idealize.ShloMosaic

variable {F : FTy → Type} [FloatOps F]

/-- Row `r` may look at column `c` when `n` chunks are in use: the column's chunk is not after the row's, and both
    positions lie within the chunks in use. -/
def Allowed (n r c : ℕ) : Prop := c / 128 ≤ r / 128 ∧ r < 128 * n ∧ c < 128 * n

instance (n r c : ℕ) : Decidable (Allowed n r c) := by unfold Allowed; infer_instance

/-- The constant the masked scores become, the f32 nearest -1e9. -/
noncomputable def fill : F .f32 := Scalar.ofBits .f32 0xCE6E6B28#32

/-- The scores `A` masked by the numbers of chunks `T`. -/
noncomputable def masked (A : S2x1x4096x4096.Idx → F .f32) (T : S2.Idx → BitVec 32) : S2x1x4096x4096.Idx → F .f32 :=
  fun x => if Allowed (T (batchIx ⟨(x 0).val, (x 0).isLt⟩)).toNat (x 2).val (x 3).val then A x else fill

/-- The place in the array of the element `y` of the block at grid point `i`. -/
def tile (i : grid0.Coords) (y : S1x1x1024x1024.Idx) : S2x1x4096x4096.Idx :=
  ix4 ⟨(i 0).val, (i 0).isLt⟩ ⟨0, Nat.one_pos⟩
    ⟨(i 1).val * 1024 + (y 2).val, by have h1 : (i 1).val < 4 := (i 1).isLt; have h2 : (y 2).val < 1024 := (y 2).isLt; omega⟩
    ⟨(i 2).val * 1024 + (y 3).val, by have h1 : (i 2).val < 4 := (i 2).isLt; have h2 : (y 3).val < 1024 := (y 3).isLt; omega⟩

/-- The mask on a block. -/
theorem masked_tile (A : S2x1x4096x4096.Idx → F .f32) (T : S2.Idx → BitVec 32) (i : grid0.Coords) (y : S1x1x1024x1024.Idx) :
    masked A T (tile i y) = if Allowed (word T i).toNat ((i 1).val * 1024 + (y 2).val) ((i 2).val * 1024 + (y 3).val)
      then A (tile i y) else fill := rfl

/-! ### The two easy blocks -/

/-- Where the first condition holds, every score of the block is kept. -/
theorem masked_of_cond1 (A : S2x1x4096x4096.Idx → F .f32) {T : S2.Idx → BitVec 32} (h : ∀ x, InRange (T x)) {i : grid0.Coords}
    (h1 : k0_cond1 i (word T i) = 1#1) (y : S1x1x1024x1024.Idx) : masked A T (tile i y) = A (tile i y) := by
  rw [masked_tile, if_pos]
  have hc := (cond1_iff (v := word T i) (h _) i).mp h1
  have hy2 : (y 2).val < 1024 := (y 2).isLt
  have hy3 : (y 3).val < 1024 := (y 3).isLt
  refine ⟨?_, ?_, ?_⟩ <;> omega

/-- Where the second condition holds, every score of the block is replaced. -/
theorem masked_of_cond2 (A : S2x1x4096x4096.Idx → F .f32) {T : S2.Idx → BitVec 32} (h : ∀ x, InRange (T x)) {i : grid0.Coords}
    (h2 : k0_cond2 i (word T i) = 1#1) (y : S1x1x1024x1024.Idx) : masked A T (tile i y) = fill := by
  rw [masked_tile, if_neg]
  have hc := (cond2_iff (v := word T i) (h _) i).mp h2
  have hy2 : (y 2).val < 1024 := (y 2).isLt
  have hy3 : (y 3).val < 1024 := (y 3).isLt
  rintro ⟨ha, hb, hd⟩
  omega

/-! ### The mixed block -/

/-- The quotient by 128 rounded down, as the kernel computes it of a word: the quotient rounded to zero, less one where
    the signs differ and the remainder is not zero. -/
def floorWord (w : BitVec 32) : BitVec 32 :=
  Scalar.select (IntOp.cmpi .ne
      ((IntOp.cmpi .sgt w 0#32).setWidth 32 - (IntOp.cmpi .slt w 0#32).setWidth 32)
      (Scalar.subi (Scalar.extui (Scalar.cmpi .sgt 128#32 0#32)) (Scalar.extui (Scalar.cmpi .slt 128#32 0#32)))
      &&& IntOp.cmpi .ne (IntOp.remsi .vector w 128#32) 0#32)
    (IntOp.divsi .vector w 128#32 - 1#32) (IntOp.divsi .vector w 128#32)

/-- Of a position below 4096 it is the quotient. -/
theorem floorWord_dec : ∀ r : Fin 4096, floorWord (BitVec.ofNat 32 r.val) = BitVec.ofNat 32 (r.val / 128) := by
  decide +kernel

/-- The row positions of the block. -/
theorem pay3_at (a : Fin 4) (p : S1024x1024.Idx) :
    k0_pay3 (BitVec.ofNat 32 a.val) p = BitVec.ofNat 32 (a.val * 1024 + (p 0).val) := by
  show BitVec.ofNat 32 a.val * 1024#32 + iota .tc S1024x1024 32 [0] iota_S1024x1024_d0_w32 p = _
  rw [iota_single_apply, BitVec.ofNat_add, BitVec.ofNat_mul]

/-- The column positions of the block. -/
theorem pay4_at (a : Fin 4) (p : S1024x1024.Idx) :
    k0_pay4 (BitVec.ofNat 32 a.val) p = BitVec.ofNat 32 (a.val * 1024 + (p 1).val) := by
  show BitVec.ofNat 32 a.val * 1024#32 + iota .tc S1024x1024 32 [1] iota_S1024x1024_d1_w32 p = _
  rw [iota_single_apply, BitVec.ofNat_add, BitVec.ofNat_mul]

/-- The rows' chunks. -/
theorem pay5_at (a : Fin 4) (p : S1024x1024.Idx) :
    k0_pay5 (BitVec.ofNat 32 a.val) p = BitVec.ofNat 32 ((a.val * 1024 + (p 0).val) / 128) := by
  show floorWord (k0_pay3 (BitVec.ofNat 32 a.val) p) = _
  have hp : (p 0).val < 1024 := (p 0).isLt
  rw [pay3_at]
  exact floorWord_dec ⟨a.val * 1024 + (p 0).val, by omega⟩

/-- Whether the mixed block keeps a score, as the kernel computes it of the words of the row and column positions, of the
    two chunks and of the number of positions in use. -/
def keepWord (row col limit rowChunk colChunk : BitVec 32) : BitVec 1 :=
  IntOp.cmpi .sge rowChunk colChunk &&& IntOp.cmpi .slt row limit &&& IntOp.cmpi .slt col limit

/-- It says whether the row may look at the column. -/
theorem keepWord_eq {n r c : ℕ} (hn : n ≤ 32) (hr : r < 4096) (hc : c < 4096) :
    keepWord (BitVec.ofNat 32 r) (BitVec.ofNat 32 c) (BitVec.ofNat 32 (n * 128)) (BitVec.ofNat 32 (r / 128))
      (BitVec.ofNat 32 (c / 128)) = BitVec.ofBool (decide (Allowed n r c)) := by
  unfold keepWord
  rw [WordCmp.cmpi_sge_ofNat (by omega) (by omega), WordCmp.cmpi_slt_ofNat (by omega) (by omega),
    WordCmp.cmpi_slt_ofNat (by omega) (by omega), BitVec.ofBool_and_ofBool, BitVec.ofBool_and_ofBool]
  congr 1
  rw [← Bool.decide_and, ← Bool.decide_and]
  exact decide_eq_decide.mpr (by unfold Allowed; omega)

/-- What the mixed block stores, at an element: the score loaded where the row may look at the column, else the
    constant. -/
theorem pay2_at {v : BitVec 32} (h : InRange v) (i : grid0.Coords) (x0 : Vec F S1x1x1024x1024 .f32) (y : S1x1x1024x1024.Idx) :
    k0_pay2 (k0_pay3 (BitVec.ofNat 32 (i 1).val)) (k0_pay4 (BitVec.ofNat 32 (i 2).val)) (Scalar.muli v 128#32)
      (k0_pay5 (BitVec.ofNat 32 (i 1).val)) 128#32 (k0_pay6 (BitVec.ofNat 32 (i 2).val)) (k0_pay7 (BitVec.ofNat 32 (i 2).val))
      (Scalar.extui (Scalar.cmpi .sgt 128#32 0#32)) (Scalar.cmpi .slt 128#32 0#32) x0 y
    = if Allowed v.toNat ((i 1).val * 1024 + (y 2).val) ((i 2).val * 1024 + (y 3).val) then x0 y else fill := by
  have hi1 : (i 1).val < 4 := (i 1).isLt
  have hi2 : (i 2).val < 4 := (i 2).isLt
  have hy0 : (y 0).val < 1 := (y 0).isLt
  have hy1 : (y 1).val < 1 := (y 1).isLt
  have hy2 : (y 2).val < 1024 := (y 2).isLt
  have hy3 : (y 3).val < 1024 := (y 3).isLt
  let p : S1024x1024.Idx := ix2 ⟨(y 2).val, hy2⟩ ⟨(y 3).val, hy3⟩
  have hp : Shape.reshapeEquiv shapeCasts_S1024x1024_S1x1x1024x1024 y = p := by
    refine Shape.reshapeEquiv_eq_of_vals _ _ _ _ _ (rowMajor_val2 p 1024 rfl) (rowMajor_val4 y 1048576 1048576 1024 rfl rfl rfl) ?_
    show (y 2).val * 1024 + (y 3).val = _
    omega
  show Scalar.select (keepWord (k0_pay3 (BitVec.ofNat 32 (i 1).val) (Shape.reshapeEquiv _ y))
      (k0_pay4 (BitVec.ofNat 32 (i 2).val) (Shape.reshapeEquiv _ y)) (v * 128#32)
      (k0_pay5 (BitVec.ofNat 32 (i 1).val) (Shape.reshapeEquiv _ y))
      (floorWord (k0_pay4 (BitVec.ofNat 32 (i 2).val) (Shape.reshapeEquiv _ y)))) (x0 y) fill = _
  obtain ⟨n, hn⟩ := h.eq_ofNat
  have hv : v * 128#32 = BitVec.ofNat 32 (v.toNat * 128) := by
    rw [BitVec.ofNat_mul, BitVec.ofNat_toNat, BitVec.setWidth_eq]
  rw [hp, hv]
  erw [pay3_at (i 1) p, pay4_at (i 2) p, pay5_at (i 1) p, floorWord_dec ⟨(i 2).val * 1024 + (p 1).val, by
    show (i 2).val * 1024 + (y 3).val < 4096; omega⟩]
  have hk := keepWord_eq (n := v.toNat) (r := (i 1).val * 1024 + (y 2).val) (c := (i 2).val * 1024 + (y 3).val) h.2 (by omega) (by omega)
  refine (congrArg (fun b => Scalar.select b (x0 y) fill) hk).trans ?_
  unfold Scalar.select
  by_cases ha : Allowed v.toNat ((i 1).val * 1024 + (y 2).val) ((i 2).val * 1024 + (y 3).val)
  · rw [if_pos ha, decide_eq_true ha]; rfl
  · rw [if_neg ha, decide_eq_false ha]; rfl

end Cert.ChunkMask

end
-- ==== Proof.Body.lean ====
/- The body of the kernel, run at one grid point: from the block of scores fetched and the table of the numbers of
   chunks, it leaves the masked block in the result's buffer, whichever of its three branches runs. -/
module

public import proofs.«01_k».proof.Proof.Mask
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.VecWindow
public import Idealize.ShloMosaic.Init

@[expose] public section

set_option maxRecDepth 16384
set_option Elab.async false

noncomputable section

namespace Cert.ChunkMask

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the numbers of chunks, whole. -/
abbrev table : Memref sig .tc .smem S2 .i32 := Memref.whole main_arg1

/-- The word the body loads from the table is the word of the point's batch. -/
theorem word_read (T : S2.Idx → BitVec 32) (i : grid0.Coords) :
    View.readAt (Elt F) table.view (Rect.unit (s := S2) (k0_off1 i) S1.size (k0_off1_inb i)).toLoadRect T
      (Shape.Idx.first (numel1_S1.symm ▸ Nat.one_pos)) = word T i := by
  rw [View.readAt_apply]
  refine congrArg T (funext fun a => ?_)
  fin_cases a
  apply Fin.ext
  show k0_off1 i 0 + 1 * 0 = (i 0).val
  rw [k0_off1_eq]
  rfl

section Paths
variable (c : Dev nD) (i : grid0.Coords) (arg4 : Memref sig .tc .vmem S1x1x1024x1024 .f32) (harg4 : arg4.IsWhole)
  (arg5 : Memref sig .tc .vmem S1x1x1024x1024 .f32) (harg5 : arg5.IsWhole) (T : S2.Idx → Elt F .i32)
  (x0 : S1x1x1024x1024.Idx → Elt F .f32)

/-- The body's own resources: the fetched block, the table and the result's buffer, which it leaves holding `out`. -/
def BodyRuns (out : S1x1x1024x1024.Idx → Elt F .f32) : Prop :=
  ∀ K : PUnit → sProp 𝕄,
  iprop((arg4.view.loc (c : Thread nD τ) ↦[arg4.view.set]{fullShare} arg4.view.rep x0)
      ∗ (table.view.loc (c : Thread nD τ) ↦{fullShare.right} T)
      ∗ (∃ d, owns (c : Thread nD τ) arg5 fullShare d)
      ∗ (iprop((arg4.view.loc (c : Thread nD τ) ↦[arg4.view.set]{fullShare} arg4.view.rep x0)
          ∗ (table.view.loc (c : Thread nD τ) ↦{fullShare.right} T)
          ∗ owns (c : Thread nD τ) arg5 fullShare out) -∗ K ⟨⟩))
    ⊢ wp Idealize.ShloMosaic.frame (wpE (defs₀ (F := F)) Variants.none c none) Set.univ
        (cc0__body (F := F) i table (Memref.isWhole_whole _) arg4 harg4 arg5 harg5) K

set_option backward.proofsInPublic true in
set_option maxHeartbeats 8000000 in
/-- Where the first condition holds the body copies the block. -/
theorem run_copy (h1 : k0_cond1 i (word T i) = 1#1) (h2 : ¬k0_cond2 i (word T i) = 1#1) (h3 : ¬k0_cond3 i (word T i) = 1#1) :
    BodyRuns c i arg4 harg4 arg5 harg5 T x0 x0 := by
  have k0_h1 := h1; have k0_h2 := h2; have k0_h3 := h3
  rw [← word_read (F := F)] at k0_h1 k0_h2 k0_h3
  unfold BodyRuns owns
  intro K
  rw [cc0__body_eq_skeleton]; unfold cc0__body_skel
  iintro ⟨H0, HT0, ⟨%d1, %f1, -, HO1⟩, Hk⟩
  have hT0 : table.IsWhole := Memref.isWhole_whole _
  sl_exec! (disch := first | (guard_target = k0_cond1 _ _ = _; exact k0_h1) | (guard_target = ¬(k0_cond2 _ _ = _); exact k0_h2) | (guard_target = ¬(k0_cond3 _ _ = _); exact k0_h3))
  sl_step
  iapply Hk
  isplitl [H0]; · iexact H0
  isplitl [HT0]; · iexact HT0
  iexists _; isplitr; swap
  · iexact HO1
  · ipureintro; unfold run_copy.sl.HO1_1; rw [View.read_writes_full, View.readAt_rep_full]

set_option backward.proofsInPublic true in
set_option maxHeartbeats 8000000 in
/-- Where the second condition holds the body fills the block with the constant. -/
theorem run_fill (h1 : ¬k0_cond1 i (word T i) = 1#1) (h2 : k0_cond2 i (word T i) = 1#1) (h3 : ¬k0_cond3 i (word T i) = 1#1) :
    BodyRuns c i arg4 harg4 arg5 harg5 T x0 (fun _ => fill) := by
  have k0_h1 := h1; have k0_h2 := h2; have k0_h3 := h3
  rw [← word_read (F := F)] at k0_h1 k0_h2 k0_h3
  unfold BodyRuns owns
  intro K
  rw [cc0__body_eq_skeleton]; unfold cc0__body_skel
  iintro ⟨H0, HT0, ⟨%d1, %f1, -, HO1⟩, Hk⟩
  have hT0 : table.IsWhole := Memref.isWhole_whole _
  sl_exec! (disch := first | (guard_target = ¬(k0_cond1 _ _ = _); exact k0_h1) | (guard_target = k0_cond2 _ _ = _; exact k0_h2) | (guard_target = ¬(k0_cond3 _ _ = _); exact k0_h3))
  sl_step
  iapply Hk
  isplitl [H0]; · iexact H0
  isplitl [HT0]; · iexact HT0
  iexists _; isplitr; swap
  · iexact HO1
  · ipureintro; unfold run_fill.sl.HO1_1; rw [View.read_writes_full]; rfl

set_option backward.proofsInPublic true in
set_option maxHeartbeats 8000000 in
/-- Where neither holds the body masks the block score by score. -/
theorem run_mix (h : InRange (word T i)) (h1 : ¬k0_cond1 i (word T i) = 1#1) (h2 : ¬k0_cond2 i (word T i) = 1#1)
    (h3 : k0_cond3 i (word T i) = 1#1) :
    BodyRuns c i arg4 harg4 arg5 harg5 T x0 (fun y =>
      if Allowed (word T i).toNat ((i 1).val * 1024 + (y 2).val) ((i 2).val * 1024 + (y 3).val) then x0 y else fill) := by
  have k0_h1 := h1; have k0_h2 := h2; have k0_h3 := h3
  rw [← word_read (F := F)] at k0_h1 k0_h2 k0_h3
  unfold BodyRuns owns
  intro K
  rw [cc0__body_eq_skeleton]; unfold cc0__body_skel
  iintro ⟨H0, HT0, ⟨%d1, %f1, -, HO1⟩, Hk⟩
  have hT0 : table.IsWhole := Memref.isWhole_whole _
  sl_exec! (disch := first | (guard_target = ¬(k0_cond1 _ _ = _); exact k0_h1) | (guard_target = ¬(k0_cond2 _ _ = _); exact k0_h2) | (guard_target = k0_cond3 _ _ = _; exact k0_h3))
  sl_step
  iapply Hk
  isplitl [H0]; · iexact H0
  isplitl [HT0]; · iexact HT0
  iexists _; isplitr; swap
  · iexact HO1
  · ipureintro
    unfold run_mix.sl.HO1_1
    rw [View.read_writes_full]
    funext y
    refine Eq.trans ?_ (pay2_at h i x0 y)
    have e : run_mix.sl.v30 (F := F) i T = Scalar.muli (word T i) 128#32 := by
      rw [← word_read (F := F)]; rfl
    rw [View.readAt_rep_full, e]
    rfl

/-- At every point, from the block of the scores `A` where the body reads it, the body leaves the masked block. -/
theorem run_body (A : S2x1x4096x4096.Idx → Elt F .f32) (hT : ∀ x, InRange (T x))
    (hx : ¬k0_cond2 i (word T i) = 1#1 → x0 = fun y => A (tile i y)) :
    BodyRuns c i arg4 harg4 arg5 harg5 T x0 (fun y => masked A T (tile i y)) := by
  have h3 := cond3_iff (v := word T i) (hT _) i
  by_cases h1 : k0_cond1 i (word T i) = 1#1
  · have h2 := not_cond2_of_cond1 (v := word T i) (hT _) i h1
    have e := run_copy c i arg4 harg4 arg5 harg5 T x0 h1 h2 (fun h => (h3.mp h).1 h1)
    rw [hx h2] at e ⊢
    rwa [show (fun y => masked A T (tile i y)) = fun y => A (tile i y) from funext (masked_of_cond1 A hT h1)]
  · by_cases h2 : k0_cond2 i (word T i) = 1#1
    · have e := run_fill c i arg4 harg4 arg5 harg5 T x0 h1 h2 (fun h => (h3.mp h).2 h2)
      rwa [show (fun y => masked A T (tile i y)) = fun _ => fill from funext (masked_of_cond2 A hT h2)]
    · have e := run_mix c i arg4 harg4 arg5 harg5 T x0 (hT _) h1 h2 (h3.mpr ⟨h1, h2⟩)
      rw [hx h2] at e ⊢
      exact e

end Paths

end Cert.ChunkMask

end
-- ==== Proof.Run.lean ====
/- The kernel's run: from any memory whose numbers of chunks are in range it terminates, leaves the arguments as they
   were and every semaphore counter at zero, and its result is the scores masked by the numbers of chunks. -/
module

public import proofs.«01_k».proof.Proof.Body
public import Idealize.ShloMosaic.Lib.Pipeline.Quiescent
public import Idealize.ShloMosaic.Lib.Pipeline.ValueKit
public import Idealize.ShloMosaic.Lib.Pipeline.Covers
public import Idealize.ShloMosaic.Lib.Claim
public import Idealize.ShloMosaic.Adequacy

@[expose] public section

set_option maxRecDepth 16384
set_option Elab.async false

noncomputable section

namespace Cert.ChunkMask

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The resources of the pipeline's staging cells, which are all the resources of the proof. -/
abbrev EP : Emb (UR sig nD τ) 𝕄 := emb₁

variable {T : S2.Idx → BitVec 32} (hT : ∀ x, InRange (T x))
variable (m : (ℓ : Loc nD τ sig) → Buf (Elt F) ℓ) (ρ : Dev nD → PrngReg)

/-- The table `T` as contents the pipeline admits. -/
def adm : (pcfg0 (F := F)).Adm := ⟨tab T, ok_tab hT⟩

/-- The pipeline at the table `T`. -/
abbrev cfgA : Pipeline.Cfg sig Λ₀ := cfg0 (F := F) (adm hT)

/-- The program's one pipeline at the table `T`. -/
abbrev pcs : Fin 1 → Pipeline.Cfg sig Λ₀ := Pipeline.pin (pcfgs (F := F)) fun _ => adm hT

/-- The coordinates of point `t`. -/
abbrev crd (t : Fin (cfgA (F := F) hT).N) : grid0.Coords := grid0.coords t

/-- The block of window `w` at point `t` in the memory at launch. -/
def iblk (c : Dev nD) (w : Fin (cfgA (F := F) hT).W) (t : Fin (cfgA (F := F) hT).N) :
    (((cfgA (F := F) hT).win w).xblock (crd hT t)).Idx → Elt F ((cfgA (F := F) hT).win w).elt :=
  (((cfgA (F := F) hT).win w).blk t).view.read (Elt F) (m (((cfgA (F := F) hT).win w).arr.view.loc (c : Thread nD τ)))

/-- The block of the masked scores that the body leaves at point `t`. -/
def oblk (c : Dev nD) (t : Fin (cfgA (F := F) hT).N) : S1x1x1024x1024.Idx → Elt F .f32 :=
  fun y => masked (m ((c : Thread nD τ).loc main_arg0)) T (tile (crd hT t) y)

/-- Between points the body keeps its half of the table. -/
def Phi (T : S2.Idx → BitVec 32) (c : Dev nD) : sProp 𝕄 := iprop(table.view.loc (c : Thread nD τ) ↦{fullShare.right} T)

/-- What the pipeline's buffers hold: the input's its block of the scores, the output's the masked block. -/
def dats (_ : Fin 1) (c : Dev nD) : Dat τ (Elt F) Unit ℕ (UR sig nD τ) ℕ (cfgA (F := F) hT) c where
  A w := m (((cfgA (F := F) hT).win w).arr.view.loc (c : Thread nD τ))
  after w t := match w with
    | ⟨0, _⟩ => iblk hT m c (0 : Fin 2) t
    | ⟨1, _⟩ => oblk hT m c t
  Φ _ := Phi T c
  q _ := fullShare
  owed _ := 0

theorem after_in (c : Dev nD) (t : Fin (cfgA (F := F) hT).N) : (dats hT m 0 c).after (0 : Fin 2) t = iblk hT m c (0 : Fin 2) t := rfl
theorem after_out (c : Dev nD) (t : Fin (cfgA (F := F) hT).N) : (dats hT m 0 c).after (1 : Fin 2) t = oblk hT m c t := rfl

/-- Before the body the input's buffer holds its block, whether fetched at this point or before. -/
theorem before_in (c : Dev nD) (t : Fin (cfgA (F := F) hT).N) (d) : (dats hT m 0 c).before (0 : Fin 2) t d = iblk hT m c (0 : Fin 2) t :=
  ((dats hT m 0 c).before_in_eq_fetched (0 : Fin 2) rfl (fun _ => rfl) (fun _ _ _ => rfl)
    (fun t => by rw [after_in]; unfold Dat.blockOf iblk; rfl) t d).trans
    (by unfold Dat.fetched Dat.blockOf iblk; rfl)

/-- The body stores into the result's buffer at every point. -/
theorem idle_out (t : Fin (cfgA (F := F) hT).N) : (cfgA (F := F) hT).idle (1 : Fin 2) ((cfgA (F := F) hT).grid.coords t) = false := by
  have h3 := cond3_iff (v := word T (crd hT t)) (hT _) (crd hT t)
  have e : (tab (F := F) T).atD 0 (k0_off1 (crd hT t)) = word T (crd hT t) := by
    have hb : ∀ a, k0_off1 (crd hT t) a + 1 ≤ S2.size a := fun a => by
      have h := k0_off1_inb (crd hT t) a
      fin_cases a
      exact h
    unfold word
    refine (dif_pos hb).trans (congrArg T (funext fun a => ?_))
    fin_cases a
    apply Fin.ext
    show k0_off1 (crd hT t) 0 = _
    rw [k0_off1_eq]
    rfl
  show (!(k0_cond1 (crd hT t) ((tab (F := F) T).atD 0 (k0_off1 (crd hT t))) == 1#1)
    && !(k0_cond2 (crd hT t) ((tab (F := F) T).atD 0 (k0_off1 (crd hT t))) == 1#1)
    && !(k0_cond3 (crd hT t) ((tab (F := F) T).atD 0 (k0_off1 (crd hT t))) == 1#1)) = false
  rw [e]
  by_cases h1 : k0_cond1 (crd hT t) (word T (crd hT t)) = 1#1
  · simp [h1]
  · by_cases h2 : k0_cond2 (crd hT t) (word T (crd hT t)) = 1#1
    · simp [h2]
    · simp [h3.mpr ⟨h1, h2⟩]

/-- Where the body reads its input, the input's block is the block of the scores at the place of the result's. -/
theorem iblk_eq (c : Dev nD) (t : Fin (cfgA (F := F) hT).N) (h2 : ¬k0_cond2 (crd hT t) (word T (crd hT t)) = 1#1) :
    iblk hT m c (0 : Fin 2) t = fun y => m ((c : Thread nD τ).loc main_arg0) (tile (crd hT t) y) := by
  funext y
  have e := fetch_eq (F := F) hT (crd hT t) h2
  rw [transform_out] at e
  blk_simp [iblk]
  refine congrArg (m _) ?_
  have e0 : (pcfg0.win (adm (F := F) hT) (0 : Fin 2)).index t 0 = (crd hT t 0).val := e 0
  have e1 : (pcfg0.win (adm (F := F) hT) (0 : Fin 2)).index t 1 = 0 := e 1
  have e2 : (pcfg0.win (adm (F := F) hT) (0 : Fin 2)).index t 2 = (crd hT t 1).val := e 2
  have e3 : (pcfg0.win (adm (F := F) hT) (0 : Fin 2)).index t 3 = (crd hT t 2).val := e 3
  blk_ext [e0, e1, e2, e3, tile]

/-- The block of the result at point `t` lies at the place `tile` says. -/
theorem emb_out (t : Fin (cfgA (F := F) hT).N) (y : S1x1x1024x1024.Idx) :
    (((cfgA (F := F) hT).win (1 : Fin 2)).blk t).view.emb y = tile (crd hT t) y := by
  have e : ∀ a : Fin 4, cc0_transform_1 (crd hT t) a = _ := congrFun (transform_out (crd hT t))
  have e0 : (pcfg0.win (adm (F := F) hT) (1 : Fin 2)).index t 0 = (crd hT t 0).val := e 0
  have e1 : (pcfg0.win (adm (F := F) hT) (1 : Fin 2)).index t 1 = 0 := e 1
  have e2 : (pcfg0.win (adm (F := F) hT) (1 : Fin 2)).index t 2 = (crd hT t 1).val := e 2
  have e3 : (pcfg0.win (adm (F := F) hT) (1 : Fin 2)).index t 3 = (crd hT t 2).val := e 3
  blk_ext [e0, e1, e2, e3, tile]

set_option maxHeartbeats 4000000 in
/-- The body's obligation at a point, its buffers written out. -/
theorem sound_body (c : Dev nD) (t : Fin (cfgA (F := F) hT).N) :
    iprop((dats hT m 0 c).Φ t.castSucc ∗ (dats hT m 0 c).owesAt () t.castSucc
        ∗ (∃ d, owns (c : Thread nD τ) (spec0_0.stage ((cfgA (F := F) hT).slots t (0 : Fin 2))) fullShare ((dats hT m 0 c).before (0 : Fin 2) t d))
        ∗ (∃ d, owns (c : Thread nD τ) (spec0_1.stage ((cfgA (F := F) hT).slots t (1 : Fin 2))) fullShare ((dats hT m 0 c).before (1 : Fin 2) t d)))
      ⊢ wp Idealize.ShloMosaic.frame (wpE (defs₀ (F := F)) Variants.none c none) Set.univ
          (cc0__body (F := F) (crd hT t) (Memref.whole main_arg1) (Memref.isWhole_whole _)
            (spec0_0.stage ((cfgA (F := F) hT).slots t (0 : Fin 2))) (hstage0_0 (((cfgA (F := F) hT).slots t (0 : Fin 2)).cast nbuf0_0))
            (spec0_1.stage ((cfgA (F := F) hT).slots t (1 : Fin 2))) (hstage0_1 (((cfgA (F := F) hT).slots t (1 : Fin 2)).cast nbuf0_1))) fun _ =>
          iprop((dats hT m 0 c).Φ t.succ ∗ (dats hT m 0 c).owesAt () t.succ
            ∗ bigSep Finset.univ fun w : Fin (cfgA (F := F) hT).W =>
                match (cfgA (F := F) hT).idle w ((cfgA (F := F) hT).grid.coords t) with
                | true =>
                  match ((cfgA (F := F) hT).win w).flush t with
                  | false => iprop(∃ d, owns (c : Thread nD τ) (((cfgA (F := F) hT).win w).stage ((cfgA (F := F) hT).slots t w)) fullShare ((dats hT m 0 c).before w t d))
                  | true => owns (c : Thread nD τ) (((cfgA (F := F) hT).win w).stage ((cfgA (F := F) hT).slots t w)) fullShare ((dats hT m 0 c).after w t)
                | false => owns (c : Thread nD τ) (((cfgA (F := F) hT).win w).stage ((cfgA (F := F) hT).slots t w)) fullShare ((dats hT m 0 c).after w t)) := by
  rw [bigSep_W0]
  rewrite [idle_out hT t]
  simp only [before_in, after_in, after_out]
  rewrite [show (dats hT m 0 c).Φ t.succ = Phi T c from rfl, show (dats hT m 0 c).Φ t.castSucc = Phi T c from rfl,
    show (dats hT m 0 c).owesAt () t.succ = (dats hT m 0 c).owesAt () t.castSucc from rfl]
  unfold Phi
  iintro ⟨HT0, Ho, ⟨%d0, H0⟩, ⟨%d1, H1⟩⟩
  iapply (run_body c (crd hT t) (spec0_0.stage ((cfgA (F := F) hT).slots t (0 : Fin 2))) (hstage0_0 (((cfgA (F := F) hT).slots t (0 : Fin 2)).cast nbuf0_0))
    (spec0_1.stage ((cfgA (F := F) hT).slots t (1 : Fin 2))) (hstage0_1 (((cfgA (F := F) hT).slots t (1 : Fin 2)).cast nbuf0_1)) T
    (iblk hT m c (0 : Fin 2) t) (m ((c : Thread nD τ).loc main_arg0)) hT (iblk_eq hT m c t) _)
  isplitl [H0]; · iapply rep_of_owns; iexact H0
  isplitl [HT0]; · iexact HT0
  isplitl [H1]; · iexists _; iexact H1
  iintro ⟨H0, HT0, H1⟩
  isplitl [HT0]
  · iexact HT0
  isplitl [Ho]; · iexact Ho
  isplitl [H0]
  · iapply owns_of_rep; iexact H0
  iexact H1

/-- The body's obligation, at every point. -/
theorem body_obligation (c : Dev nD) : BodyObligation (dats hT m 0 c) (defs₀ (F := F)) Variants.none () Set.univ := fun t => by
  rw [bigSep_W0]
  exact sound_body hT m c t

/-! ### The launch -/

/-- The resources the staging cells start from. -/
def u₀ : UR sig nD τ :=
  initOf (Pipeline.cells (pcs (F := F) hT) ((launch0 (F := F)).cellOf_inj fun _ => adm hT))
    (Pipeline.launchToks (pcs (F := F) hT) ((launch0 (F := F)).cellOf_inj fun _ => adm hT))

theorem share_eq (c : Dev nD) (w : Fin (cfgA (F := F) hT).W) : (dats hT m 0 c).share w = fullShare := by unfold Dat.share; split <;> rfl

/-- The one table as the launch hands it to the region. -/
theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0)) := by
  unfold Pipeline.prefHeld
  rw [show (Finset.univ : Finset (Fin 1)) = {(0 : Fin 1)} from by decide, bigSep_singleton]
  rfl

/-- The region enters with the body's half of the table. -/
theorem phi_enter (c : Dev nD) :
    iprop(BI.emp ∗ Pipeline.prefHeld pre0 c (fun _ => fullShare.right) (adm (F := F) hT).1 ∗ Pipeline.scopedRest spec0 c) ⊢ (dats hT m 0 c).Φ 0 := by
  rw [prefHeld_eq, scopedRest0_eq, show (dats hT m 0 c).Φ 0 = Phi T c from rfl]
  unfold Phi
  iintro ⟨-, HT0, -⟩
  iexact HT0

/-- At the end it needs nothing of it. -/
theorem phi_exit (c : Dev nD) : (dats hT m 0 c).Φ (Fin.last (cfgA (F := F) hT).N) ⊢ iprop(BI.emp ∗ Pipeline.scopedRest spec0 c) := by
  rw [scopedRest0_eq]
  iintro -
  isplitr <;> iempintro

set_option backward.isDefEq.respectTransparency.types false in
set_option maxHeartbeats 4000000 in
/-- The run, in the pipeline's terms: every window's array at what the pipeline's write-backs leave, the table and the
    argument no window reads as they were, every semaphore counter at zero. -/
theorem run_arrays (hp : ∀ c : Dev nD, m ((c : Thread nD τ).loc main_arg1) = T) :
    θ_run (defs (F := F)) (onTc (τ := τ) (main (F := F))) ⟨m, fun _ => 0, ρ⟩ (fun r =>
      (∀ c : Dev nD, (∀ w : Fin (cfgA (F := F) hT).W, r.2.mem (((cfgA (F := F) hT).win w).arr.view.loc (c : Thread nD τ)) = (dats hT m 0 c).arrAt w (cfgA (F := F) hT).N)
        ∧ (∀ j, r.2.mem ((c : Thread nD τ).loc (pre0.ref j)) = (adm (F := F) hT).1 j)
        ∧ r.2.mem ((c : Thread nD τ).loc main_arg2) = m ((c : Thread nD τ).loc main_arg2))
      ∧ r.2.sem = fun _ => 0) :=
  Pipeline.θ_run_region_noSem_pf_quiescent pcfgs (fun _ => adm hT) (dats hT m) () ((launch0 (F := F)).cellOf_inj fun _ => adm hT) (0 : Fin 1)
    (launch0 (F := F)).win.to₀ (launch0 (F := F)).pre EP defs₀ Variants.none m ρ main
    (hbody := fun c => (body_obligation hT m c).loose) (hne := (launch0 (F := F)).block_pos)
    (harr := (launch0 (F := F)).arr_whole) (hstage := (launch0 (F := F)).stage_whole) (howed := fun _ _ => rfl)
    (u₀ := u₀ (F := F) hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs (F := F) hT) (dats hT m) 0 (launch0 (F := F)).win.arr_inj c (launch0 (F := F)).arr_whole
      (share_eq hT m c) _ _ fun _ => rfl)
    (hpf := fun c j => by fin_cases j; exact hp c)
    (X := fun _ => iprop(emp)) (Y := fun _ => iprop(emp))
    (Z := fun c => iprop((c : Thread nD τ).loc main_arg2 ↦{fullShare} m ((c : Thread nD τ).loc main_arg2)))
    (hX := fun c => by
      rw [unscopedRestP0_eq]
      iintro H; isplitr; · iempintro
      iexact H)
    (hin := phi_enter hT m)
    (hout := phi_exit hT m)
    (QY := fun c s => s.mem ((c : Thread nD τ).loc main_arg2) = m ((c : Thread nD τ).loc main_arg2))
    (hY := fun c s' => by
      iintro ⟨-, H2, HSI⟩
      icombine HSI H2 gives %h2
      imodintro
      isplitr; · ipureintro; exact Buf.eq_of_forall_mem_univ h2
      iexact HSI)
    (hQ := fun _ h hz => ⟨h, hz⟩)

/-- The result's array after the run: the write-backs cover it, and each leaves a block of the masked scores. -/
theorem final_out (c : Dev nD) : (dats hT m 0 c).arrAt (1 : Fin 2) (cfgA (F := F) hT).N = masked (m ((c : Thread nD τ).loc main_arg0)) T := by
  refine (dats hT m 0 c).arrAt_eq_of_covers (1 : Fin 2) _ ?_ fun t hf y => ?_
  · refine Pipeline.Window.covers_of_indexMap_surj _ rfl
      (show ∀ a : Fin 4, 0 < S1x1x1024x1024.size a by decide) fun β => ?_
    have hn : ∀ a : Fin 4, ((cfgA (F := F) hT).win (1 : Fin 2)).nblk a = ![2, 1, 4, 4] a :=
      (by decide : ∀ a : Fin 4, (S2x1x4096x4096.size a + S1x1x1024x1024.size a - 1) / S1x1x1024x1024.size a = ![2, 1, 4, 4] a)
    have h0 : (β (0 : Fin 4)).val < 2 := (β (0 : Fin 4)).isLt.trans_eq (hn 0)
    have h1 : (β (1 : Fin 4)).val < 1 := (β (1 : Fin 4)).isLt.trans_eq (hn 1)
    have h2 : (β (2 : Fin 4)).val < 4 := (β (2 : Fin 4)).isLt.trans_eq (hn 2)
    have h3 : (β (3 : Fin 4)).val < 4 := (β (3 : Fin 4)).isLt.trans_eq (hn 3)
    obtain ⟨i, i0, i1, i2⟩ : ∃ i : grid0.Coords, (i 0).val = (β (0 : Fin 4)).val ∧ (i 1).val = (β (2 : Fin 4)).val
        ∧ (i 2).val = (β (3 : Fin 4)).val :=
      ⟨fun | 0 => ⟨_, h0⟩ | 1 => ⟨_, h2⟩ | 2 => ⟨_, h3⟩, rfl, rfl, rfl⟩
    have e : ∀ a : Fin 4, cc0_transform_1 i a = _ := congrFun (transform_out i)
    refine ⟨i, fun a => (?_ : cc0_transform_1 i a = _)⟩
    rw [e]
    fin_cases a
    · exact i0
    · show 0 = (β (1 : Fin 4)).val
      omega
    · exact i1
    · exact i2
  · blk_simp
    rw [after_out]
    unfold oblk
    rw [emb_out]

/-- From any memory whose numbers of chunks are in range the kernel terminates, its result is the scores masked by the
    numbers of chunks, its arguments are as they were, and every semaphore counter is at zero. -/
theorem run (hT : ∀ (c : Dev nD) x, InRange (m ((c : Thread nD τ).loc main_arg1) x)) :
    θ_run (defs (F := F)) (onTc (τ := τ) (main (F := F))) ⟨m, fun _ => 0, ρ⟩ (fun r =>
      (∀ c : Dev nD,
        r.2.mem ((c : Thread nD τ).loc main_v0) = masked (m ((c : Thread nD τ).loc main_arg0)) (m ((c : Thread nD τ).loc main_arg1))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.sem = fun _ => 0) := by
  have hp : ∀ c : Dev nD, m ((c : Thread nD τ).loc main_arg1) = m (((0 : Dev nD) : Thread nD τ).loc main_arg1) := fun c => by
    rw [show c = 0 from Subsingleton.elim _ _]
  refine (θ_run defs _ _).mono (fun r h => ⟨fun c => ?_, h.2⟩) (run_arrays (hT 0) m ρ hp)
  obtain ⟨ha, ht, h2⟩ := h.1 c
  refine ⟨?_, ?_, ?_, h2⟩
  · exact ((ha (1 : Fin 2)).trans (final_out (hT 0) m c)).trans (by rw [hp c])
  · exact (ha (0 : Fin 2)).trans ((dats (hT 0) m 0 c).arrAt_in (0 : Fin 2) rfl _)
  · exact (ht 0).trans (hp c).symm

end Cert.ChunkMask

end
-- ==== Proof.Reference.lean ====
/- The reference's run: from any memory it terminates and leaves its arguments and every semaphore counter as they were;
   at a chunk size of 128 and numbers of chunks in range its result is the scores masked by the numbers of chunks, the
   same function the kernel computes. -/
module

public import proofs.«01_k».proof.Proof.Mask
public import proofs.«01_k».proof.Proof.Gen.ReferenceIdeal.Run
public import Idealize.ShloMosaic.Lib.Quiescent

@[expose] public section

noncomputable section

namespace Cert.ChunkMask

open Cert.ReferenceIdeal Cert.ReferenceIdeal.Gen
open Idealize.ShloMosaic Idealize.ShloMosaic.TcCoe Idealize.SL.Sem

/-! ### The chunks of the positions -/

/-- The sign of a word: -1, 0 or 1. -/
def signWord (w : BitVec 32) : BitVec 32 := if w = 0 then 0 else if w.msb then -1 else 1

/-- The quotient by 128 rounded down, as the reference computes it of a word: the quotient rounded to zero, less one
    where the signs differ and the remainder is not zero. -/
def hostFloorWord (w : BitVec 32) : BitVec 32 :=
  Scalar.select (IntOp.cmpi .ne (signWord w) (signWord 128#32) &&& IntOp.cmpi .ne (IntOp.remsi .host w 128#32) 0#32)
    (IntOp.divsi .host w 128#32 - 1#32) (IntOp.divsi .host w 128#32)

/-- Of a position below 4096 it is the quotient. -/
theorem hostFloorWord_dec : ∀ r : Fin 4096, hostFloorWord (BitVec.ofNat 32 r.val) = BitVec.ofNat 32 (r.val / 128) := by
  decide +kernel

/-- The chunk of each position, as the reference computes it with chunks of `s`. -/
def chunkIds (s : IVec S_ 32) : IVec S4096 32 :=
  select (andi (cmpi .ne (signi (iotaInDim S4096 32 0)) (broadcastInDim S4096 ![] bcast_S_S4096 (signi s)))
      (cmpi .ne (Host.remsi (iotaInDim S4096 32 0) (broadcastInDim S4096 ![] bcast_S_S4096 s))
        (broadcastInDim S4096 ![] bcast_S_S4096 (constantI S_ 32 0#32))))
    (subi (Host.divsi (iotaInDim S4096 32 0) (broadcastInDim S4096 ![] bcast_S_S4096 s))
      (broadcastInDim S4096 ![] bcast_S_S4096 (constantI S_ 32 1#32)))
    (Host.divsi (iotaInDim S4096 32 0) (broadcastInDim S4096 ![] bcast_S_S4096 s))

/-- With chunks of 128 it is the position over 128. -/
theorem chunkIds_at (r : Fin 4096) : chunkIds (fun _ => 128#32) (ix1 r) = BitVec.ofNat 32 (r.val / 128) :=
  hostFloorWord_dec r

/-- Which positions lie within a batch's chunks in use, as the reference computes it. -/
def inUse (T : IVec S2 32) (s : IVec S_ 32) : IVec S2x4096 1 :=
  cmpi .slt (broadcastInDim S2x4096 ![0, 1] bcast_S1x4096_S2x4096_0_1 (broadcastInDim S1x4096 ![1] bcast_S4096_S1x4096_1 (iotaInDim S4096 32 0)))
    (broadcastInDim S2x4096 ![0, 1] bcast_S2x1_S2x4096_0_1 (broadcastInDim S2x1 ![0] bcast_S2_S2x1_0 (muli T (broadcastInDim S2 ![] bcast_S_S2 s))))

/-- At a batch and a position it compares the position with 128 times the batch's number of chunks. -/
theorem inUse_at (T : IVec S2 32) (b : Fin 2) (r : Fin 4096) :
    inUse T (fun _ => 128#32) (ix2 b r) = IntOp.cmpi .slt (BitVec.ofNat 32 r.val) (T (batchIx b) * 128#32) := by
  unfold inUse cmpi
  rw [broadcastInDim_apply _ _ _ (ix2 b r) (ix2 (0 : Fin 1) r) (by intro a; fin_cases a <;> rfl),
    broadcastInDim_apply _ _ _ (ix2 (0 : Fin 1) r) (ix1 r) (by intro a; fin_cases a; rfl),
    broadcastInDim_apply _ _ _ (ix2 b r) (ix2 b (0 : Fin 1)) (by intro a; fin_cases a <;> rfl),
    broadcastInDim_apply _ _ _ (ix2 b (0 : Fin 1)) (batchIx b) (by intro a; fin_cases a; rfl)]
  rfl

/-! ### The result -/

variable {F : FTy → Type} [FloatOps F]

/-- The reference's result of its three arguments. -/
def refValue (A : Vec F S2x1x4096x4096 .f32) (T : IVec S2 32) (s : IVec S_ 32) : Vec F S2x1x4096x4096 .f32 :=
  select (broadcastInDim S2x1x4096x4096 ![0, 2, 3] bcast_S2x4096x4096_S2x1x4096x4096_0_2_3
      (noti (andi
        (andi
          (broadcastInDim S2x4096x4096 ![0, 1, 2] bcast_S1x4096x4096_S2x4096x4096_0_1_2
            (broadcastInDim S1x4096x4096 ![1, 2] bcast_S4096x4096_S1x4096x4096_1_2
              (cmpi .sge
                (broadcastInDim S4096x4096 ![0, 1] bcast_S4096x1_S4096x4096_0_1 (broadcastInDim S4096x1 ![0] bcast_S4096_S4096x1_0 (chunkIds s)))
                (broadcastInDim S4096x4096 ![0, 1] bcast_S1x4096_S4096x4096_0_1 (broadcastInDim S1x4096 ![1] bcast_S4096_S1x4096_1 (chunkIds s))))))
          (broadcastInDim S2x4096x4096 ![0, 1, 2] bcast_S2x4096x1_S2x4096x4096_0_1_2
            (broadcastInDim S2x4096x1 ![0, 1] bcast_S2x4096_S2x4096x1_0_1 (inUse T s))))
        (broadcastInDim S2x4096x4096 ![0, 1, 2] bcast_S2x1x4096_S2x4096x4096_0_1_2
          (broadcastInDim S2x1x4096 ![0, 2] bcast_S2x4096_S2x1x4096_0_2 (inUse T s))))))
    (broadcastInDim S2x1x4096x4096 ![] bcast_S_S2x1x4096x4096 (constant S_ .f32 0xCE6E6B28#32)) A

/-- At an element: the constant where `keepWord` of the row, the column, the positions in use and the two chunks is
    false, else the score. -/
theorem refValue_at (A : Vec F S2x1x4096x4096 .f32) (T : IVec S2 32) (b : Fin 2) (r c : Fin 4096) :
    refValue A T (fun _ => 128#32) (ix4 b (0 : Fin 1) r c)
      = Scalar.select (~~~keepWord (BitVec.ofNat 32 r.val) (BitVec.ofNat 32 c.val) (T (batchIx b) * 128#32)
          (BitVec.ofNat 32 (r.val / 128)) (BitVec.ofNat 32 (c.val / 128))) fill (A (ix4 b (0 : Fin 1) r c)) := by
  unfold refValue select
  rw [broadcastInDim_apply _ bcast_S2x4096x4096_S2x1x4096x4096_0_2_3 _ (ix4 b (0 : Fin 1) r c) (ix3 b r c) (by intro a; fin_cases a <;> rfl)]
  unfold noti andi
  rw [broadcastInDim_apply _ bcast_S1x4096x4096_S2x4096x4096_0_1_2 _ (ix3 b r c) (ix3 (0 : Fin 1) r c) (by intro a; fin_cases a <;> rfl),
    broadcastInDim_apply _ bcast_S4096x4096_S1x4096x4096_1_2 _ (ix3 (0 : Fin 1) r c) (ix2 r c) (by intro a; fin_cases a <;> rfl),
    broadcastInDim_apply _ bcast_S2x4096x1_S2x4096x4096_0_1_2 _ (ix3 b r c) (ix3 b r (0 : Fin 1)) (by intro a; fin_cases a <;> rfl),
    broadcastInDim_apply _ bcast_S2x4096_S2x4096x1_0_1 _ (ix3 b r (0 : Fin 1)) (ix2 b r) (by intro a; fin_cases a <;> rfl),
    broadcastInDim_apply _ bcast_S2x1x4096_S2x4096x4096_0_1_2 _ (ix3 b r c) (ix3 b (0 : Fin 1) c) (by intro a; fin_cases a <;> rfl),
    broadcastInDim_apply _ bcast_S2x4096_S2x1x4096_0_2 _ (ix3 b (0 : Fin 1) c) (ix2 b c) (by intro a; fin_cases a <;> rfl),
    inUse_at, inUse_at]
  unfold cmpi
  rw [broadcastInDim_apply _ bcast_S4096x1_S4096x4096_0_1 _ (ix2 r c) (ix2 r (0 : Fin 1)) (by intro a; fin_cases a <;> rfl),
    broadcastInDim_apply _ bcast_S4096_S4096x1_0 _ (ix2 r (0 : Fin 1)) (ix1 r) (by intro a; fin_cases a; rfl),
    broadcastInDim_apply _ bcast_S1x4096_S4096x4096_0_1 _ (ix2 r c) (ix2 (0 : Fin 1) c) (by intro a; fin_cases a <;> rfl),
    broadcastInDim_apply _ bcast_S4096_S1x4096_1 _ (ix2 (0 : Fin 1) c) (ix1 c) (by intro a; fin_cases a; rfl),
    chunkIds_at, chunkIds_at]
  rfl

/-- At a chunk size of 128 and numbers of chunks in range the reference's result is the masked scores. -/
theorem refValue_eq (A : Vec F S2x1x4096x4096 .f32) {T : IVec S2 32} (hT : ∀ x, InRange (T x)) :
    refValue A T (fun _ => 128#32) = masked A T := by
  funext x
  obtain ⟨b, z, r, c, rfl⟩ : ∃ (b : Fin 2) (z : Fin 1) (r c : Fin 4096), x = ix4 b z r c :=
    ⟨x 0, x 1, x 2, x 3, funext fun a => by fin_cases a <;> rfl⟩
  obtain rfl : z = 0 := Subsingleton.elim _ _
  have hv : T (batchIx b) * 128#32 = BitVec.ofNat 32 ((T (batchIx b)).toNat * 128) := by
    rw [BitVec.ofNat_mul, BitVec.ofNat_toNat, BitVec.setWidth_eq]
  rw [refValue_at, hv, keepWord_eq (hT _).2 r.isLt c.isLt]
  show _ = if Allowed (T (batchIx b)).toNat r.val c.val then A (ix4 b 0 r c) else fill
  unfold Scalar.select
  by_cases ha : Allowed (T (batchIx b)).toNat r.val c.val
  · rw [if_pos ha, decide_eq_true ha]; rfl
  · rw [if_neg ha, decide_eq_false ha]; rfl

/-! ### The run -/

variable (m : (ℓ : Loc nD τ sig) → Buf (Elt F) ℓ) (ρ : Dev nD → PrngReg)

/-- From any memory the reference terminates, its result is `refValue` of its arguments, its arguments are as they were,
    and every semaphore counter is at zero (it has no semaphore). -/
theorem reference_run :
    θ_run defs (onTc (τ := τ) (main (F := F))) ⟨m, fun _ => 0, ρ⟩ (fun r =>
      (∀ c : Dev nD,
        r.2.mem ((c.tc : Thread nD τ).loc main_v24) = refValue (m ((c.tc : Thread nD τ).loc main_arg0))
            (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run defs _ _).mono (fun r h => ⟨fun c => h c, sem_eq_zero_of_no_sems (by decide) r.2⟩) (Value.run m ρ)

end Cert.ChunkMask

end
-- ==== Proof.Precondition.lean ====
/- What the two preconditions say: `chunks_in_range` that every number of chunks is from 1 to 32, `chunks_of_128` that
   moreover the chunk size is 128. -/
module

public import proofs.«01_k».proof.Proof.Words
public import proofs.«01_k».proof.Proof.Gen.Pre_chunks_in_range
public import proofs.«01_k».proof.Pre_chunks_of_128
public import Idealize.ShloMosaic.Lib.ReduceAll
public import Idealize.ShloMosaic.Lib.StableHlo.Predicate

@[expose] public section

namespace Cert.ChunkMask

open Cert.Pre_chunks_in_range
open Idealize.ShloMosaic

/-- A word that compares at least 1 and at most 32 as a signed integer is in range. -/
theorem inRange_of_cmpi {v : BitVec 32} (h1 : IntOp.cmpi .sge v 1#32 = 1#1) (h2 : IntOp.cmpi .sle v 32#32 = 1#1) : InRange v := by
  unfold IntOp.cmpi at h1 h2
  rw [StableHlo.Predicate.ofBool_eq_one_iff] at h1 h2
  simp only [BitVec.sle, decide_eq_true_eq] at h1 h2
  have e1 : (1#32 : BitVec 32).toInt = 1 := by decide
  have e2 : (32#32 : BitVec 32).toInt = 32 := by decide
  rw [e1] at h1
  rw [e2] at h2
  have h := BitVec.toInt_eq_toNat_cond v
  have hl := v.isLt
  unfold InRange
  split at h <;> omega

/-- The shape relations that `chunks_of_128` states are those that `chunks_in_range` states. -/
theorem facts_of_128 : Cert.Pre_chunks_of_128.Facts where
  bcast_S_S2 := Cert.Pre_chunks_in_range.Gen.bcast_S_S2
  reducesTo_S2_S_d0 := Cert.Pre_chunks_in_range.Gen.reducesTo_S2_S_d0
  h_S_ := Cert.Pre_chunks_in_range.Gen.h_S_

variable {F : FTy → Type} [FloatOps F]

/-- Under `chunks_in_range` every number of chunks is in range. -/
theorem of_in_range {A : FVec F S2x1x4096x4096 .f32} {T : IVec S2 32} {s : IVec S_ 32}
    (h : Cert.Pre_chunks_in_range.fn A T s = fun _ => 1#1) (x) : InRange (T x) := by
  have : Subsingleton S_.Idx := ⟨fun a b => funext fun k => k.elim0⟩
  have hx : IntOp.andi (IntOp.cmpi .sge (T x) 1#32) (IntOp.cmpi .sle (T x) 32#32) = 1#1 :=
    Host.reduce_andi_all _ _ _ _ _ (congrFun h fun k => k.elim0) x
  exact inRange_of_cmpi (IntOp.andi_eq_one.1 hx).1 (IntOp.andi_eq_one.1 hx).2

/-- `chunks_of_128` is `chunks_in_range` and the chunk size being 128. -/
theorem of_of_128 {A : FVec F S2x1x4096x4096 .f32} {T : IVec S2 32} {s : IVec S_ 32}
    (h : @Cert.Pre_chunks_of_128.fn facts_of_128 F _ A T s = fun _ => 1#1) : (∀ x, InRange (T x)) ∧ s = fun _ => 128#32 := by
  have h0 : ∀ y, IntOp.andi (Cert.Pre_chunks_in_range.fn A T s y) (IntOp.cmpi .eq (s y) 128#32) = 1#1 := fun y => congrFun h y
  exact ⟨of_in_range (funext fun y => (IntOp.andi_eq_one.1 (h0 y)).1),
    funext fun y => StableHlo.Predicate.cmpi_eq_iff.mp (IntOp.andi_eq_one.1 (h0 y)).2⟩

end Cert.ChunkMask
-- ==== Proof.lean ====
module

public import proofs.«01_k».proof.Defs
public import proofs.«01_k».proof.Proof.Gen.Kernel
public import proofs.«01_k».proof.Proof.Run
public import proofs.«01_k».proof.Proof.Reference
public import proofs.«01_k».proof.Proof.Precondition

@[expose] public section

noncomputable section

namespace Cert.Proof

open Idealize.ShloMosaic Idealize.SL.Sem

/-- The idealization's text read at the machine's floats terminates and leaves its arguments and every semaphore counter as
    they were, where the numbers of chunks are in range. -/
theorem bits_frame (m : (ℓ : Loc Cert.KernelIdeal.nD Cert.KernelIdeal.τ Cert.KernelIdeal.sig) → Buf (Elt Bits) ℓ) (g : Dev Cert.KernelIdeal.nD → PrngReg)
    (hT : ∀ (c : Dev Cert.KernelIdeal.nD) x, Cert.ChunkMask.InRange (m ((c.tc : Thread Cert.KernelIdeal.nD Cert.KernelIdeal.τ).loc Cert.KernelIdeal.main_arg1) x)) :
    θ_run (Cert.KernelIdeal.defs (F := Bits)) (onTc (τ := Cert.KernelIdeal.τ) (Cert.KernelIdeal.main (F := Bits))) ⟨m, fun _ => 0, g⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).2, h.2⟩) (Cert.ChunkMask.run m g hT)

/-- The body the kernel calls by its label is the body its idealization calls, at the machine's floats. -/
theorem bodies_eq : Cert.Kernel.defs₀ (F := Bits) = Cert.KernelIdeal.defs₀ (F := Bits) := by
  unfold Cert.Kernel.defs₀ Cert.KernelIdeal.defs₀
  refine congrArg Defs.onTc (funext fun l => ?_)
  fin_cases l
  funext x
  obtain ⟨t, s⟩ := x
  rfl

/-- The kernel's definitions, its pipeline's with its body's, are its idealization's, at the machine's floats. -/
theorem defs_eq : Cert.Kernel.defs (F := Bits) = Cert.KernelIdeal.defs (F := Bits) :=
  congrArg (Pipeline.defs Cert.KernelIdeal.pcfgs) bodies_eq

/-- The kernel terminates and leaves its arguments and every semaphore counter as they were. Its program is its
    idealization's own text, so the run proved of that one at every reading of the floats is its run too. -/
theorem kernel_frame : Cert.quiescent_Kernel (hKernel := Cert.Kernel.Gen.facts) (hPre_chunks_in_range := Cert.Pre_chunks_in_range.Gen.facts) := by
  intro m g hm
  rw [defs_eq]
  exact bits_frame m g fun c => Cert.ChunkMask.of_in_range (hm c)

/-- The idealized kernel terminates and leaves its arguments and every semaphore counter as they were. -/
theorem ideal_frame : Cert.quiescent_KernelIdeal (hKernelIdeal := Cert.KernelIdeal.Gen.facts) (hPre_chunks_in_range := Cert.Pre_chunks_in_range.Gen.facts) :=
  fun m g hm => (θ_run Cert.KernelIdeal.defs _ _).mono (fun _ h => ⟨fun c => (h.1 c).2, h.2⟩)
    (Cert.ChunkMask.run (F := Ideal) m g fun c => Cert.ChunkMask.of_in_range (hm c))

/-- The idealized kernel's frame again, of the narrower memories of which the results are compared. -/
theorem ideal_frame_of_128 : Cert.quiescent_KernelIdeal_pre_chunks_of_128 (hKernelIdeal := Cert.KernelIdeal.Gen.facts) (hPre_chunks_of_128 := Cert.ChunkMask.facts_of_128) :=
  fun m g hm => (θ_run Cert.KernelIdeal.defs _ _).mono (fun _ h => ⟨fun c => (h.1 c).2, h.2⟩)
    (Cert.ChunkMask.run (F := Ideal) m g fun c => (Cert.ChunkMask.of_of_128 (hm c)).1)

/-- The reference terminates and leaves its arguments and every semaphore counter as they were, from any memory. -/
theorem reference_frame : Cert.quiescent_ReferenceIdeal (hReferenceIdeal := Cert.ReferenceIdeal.Gen.facts) :=
  fun m g _ => (θ_run Cert.ReferenceIdeal.defs _ _).mono (fun _ h => ⟨fun c => (h.1 c).2, h.2⟩)
    (Cert.ChunkMask.reference_run (F := Ideal) m g)

/-- On arguments that agree and satisfy the precondition the idealized kernel and the reference end with one result,
    the scores masked by the numbers of chunks. -/
theorem same_result : Cert.algebraic_KernelIdeal_ReferenceIdeal_pre_chunks_of_128 (hKernelIdeal := Cert.KernelIdeal.Gen.facts)
    (hReferenceIdeal := Cert.ReferenceIdeal.Gen.facts) (hPre_chunks_of_128 := Cert.ChunkMask.facts_of_128) := by
  intro m g m' g' hm ha
  refine ⟨fun c => Cert.ChunkMask.masked (F := Ideal) (m ((c.tc : Thread _ _).loc Cert.KernelIdeal.main_arg0)) (m ((c.tc : Thread _ _).loc Cert.KernelIdeal.main_arg1)), ?_, ?_⟩
  · exact (θ_run Cert.KernelIdeal.defs _ _).mono (fun _ h c => h.1 c)
      (Cert.ChunkMask.run (F := Ideal) m g fun c => (Cert.ChunkMask.of_of_128 (hm c)).1)
  · refine (θ_run Cert.ReferenceIdeal.defs _ _).mono (fun r h c => ⟨(h.1 c).1.trans ?_, (h.1 c).2⟩)
      (Cert.ChunkMask.reference_run (F := Ideal) m' g')
    obtain ⟨hT, hs⟩ := Cert.ChunkMask.of_of_128 (hm c)
    rw [(ha c).1, (ha c).2.1, (ha c).2.2]
    exact (congrArg _ hs).trans (Cert.ChunkMask.refValue_eq _ hT)

/-- Everything claimed. -/
theorem claim : Cert.Claim :=
  ⟨Cert.Kernel.Gen.facts, Cert.KernelIdeal.Gen.facts, Cert.ReferenceIdeal.Gen.facts, Cert.Pre_chunks_in_range.Gen.facts,
    Cert.ChunkMask.facts_of_128, kernel_frame, ideal_frame, ideal_frame_of_128, reference_frame, fun m g _ => reference_frame m g trivial, trivial, same_result⟩

end Cert.Proof

end
